-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x8192 : Shape := ⟨3, ![4, 384, 8192]⟩
abbrev S10240x4096 : Shape := ⟨2, ![10240, 4096]⟩
abbrev S10240x256 : Shape := ⟨2, ![10240, 256]⟩
abbrev S1536x8192 : Shape := ⟨2, ![1536, 8192]⟩
abbrev S1536x10240 : Shape := ⟨2, ![1536, 10240]⟩
abbrev S256x4096 : Shape := ⟨2, ![256, 4096]⟩
abbrev S256x256 : Shape := ⟨2, ![256, 256]⟩
abbrev S1536x256 : Shape := ⟨2, ![1536, 256]⟩
abbrev S8192x256 : Shape := ⟨2, ![8192, 256]⟩
abbrev S256x128 : Shape := ⟨2, ![256, 128]⟩
abbrev S128x256 : Shape := ⟨2, ![128, 256]⟩
abbrev S32x256 : Shape := ⟨2, ![32, 256]⟩
abbrev S1x256 : Shape := ⟨2, ![1, 256]⟩
abbrev S16x256 : Shape := ⟨2, ![16, 256]⟩

abbrev nBuf : Space → Nat
  | .hbm => 5
  | .vmem => 9
  | .smem => 0
  | _ => 0

abbrev bufTy : (tb : Table) → Fin (tcTables nBuf tb) → BufTy
  | .hbm, ⟨0, _⟩ => ⟨S4x384x8192, .bf16⟩
  | .hbm, ⟨1, _⟩ => ⟨S10240x4096, .i8⟩
  | .hbm, ⟨2, _⟩ => ⟨S10240x256, .i8⟩
  | .hbm, ⟨3, _⟩ => ⟨S1536x8192, .bf16⟩
  | .hbm, ⟨4, _⟩ => ⟨S1536x10240, .bf16⟩
  | .local _ .vmem, ⟨0, _⟩ => ⟨S1536x8192, .bf16⟩
  | .local _ .vmem, ⟨1, _⟩ => ⟨S256x4096, .i8⟩
  | .local _ .vmem, ⟨2, _⟩ => ⟨S256x4096, .i8⟩
  | .local _ .vmem, ⟨3, _⟩ => ⟨S256x256, .i8⟩
  | .local _ .vmem, ⟨4, _⟩ => ⟨S256x256, .i8⟩
  | .local _ .vmem, ⟨5, _⟩ => ⟨S1536x256, .bf16⟩
  | .local _ .vmem, ⟨6, _⟩ => ⟨S1536x256, .bf16⟩
  | .local _ .vmem, ⟨7, _⟩ => ⟨S8192x256, .bf16⟩
  | .local _ .vmem, ⟨8, _⟩ => ⟨S256x256, .i32⟩
  | _, _ => ⟨S4x384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x384x8192 : Shape := ⟨3, ![4, 384, 8192]⟩
abbrev S10240x4096 : Shape := ⟨2, ![10240, 4096]⟩
abbrev S10240x256 : Shape := ⟨2, ![10240, 256]⟩
abbrev S_ : Shape := ⟨0, ![]⟩
abbrev S10240x256x16 : Shape := ⟨3, ![10240, 256, 16]⟩
abbrev S10240x256x1 : Shape := ⟨3, ![10240, 256, 1]⟩
abbrev S4x384x4096 : Shape := ⟨3, ![4, 384, 4096]⟩
abbrev S4x384x10240 : Shape := ⟨3, ![4, 384, 10240]⟩
abbrev S1536x10240 : Shape := ⟨2, ![1536, 10240]⟩

abbrev nBuf : Space → Nat
  | .hbm => 146
  | .vmem => 0
  | .smem => 0
  | _ => 0

abbrev hbmTy0_0 (i : Nat) : BufTy := match i % 128 with
  | 0 => ⟨S4x384x8192, .bf16⟩
  | 1 => ⟨S10240x4096, .i8⟩
  | 2 => ⟨S10240x256, .i8⟩
  | 3 => ⟨S10240x4096, .i32⟩
  | 4 => ⟨S_, .i32⟩
  | 5 => ⟨S10240x4096, .i32⟩
  | 6 => ⟨S10240x4096, .i32⟩
  | 7 => ⟨S_, .i32⟩
  | 8 => ⟨S10240x4096, .i32⟩
  | 9 => ⟨S10240x4096, .i32⟩
  | 10 => ⟨S10240x256, .i32⟩
  | 11 => ⟨S_, .i32⟩
  | 12 => ⟨S10240x256, .i32⟩
  | 13 => ⟨S10240x256, .i32⟩
  | 14 => ⟨S_, .f32⟩
  | 15 => ⟨S10240x256, .f32⟩
  | 16 => ⟨S10240x256, .f32⟩
  | 17 => ⟨S10240x256, .f32⟩
  | 18 => ⟨S_, .i32⟩
  | 19 => ⟨S10240x256, .i32⟩
  | 20 => ⟨S10240x256, .i1⟩
  | 21 => ⟨S_, .i32⟩
  | 22 => ⟨S10240x256, .i32⟩
  | 23 => ⟨S10240x256, .i1⟩
  | 24 => ⟨S_, .f32⟩
  | 25 => ⟨S10240x256, .f32⟩
  | 26 => ⟨S10240x256, .f32⟩
  | 27 => ⟨S_, .f32⟩
  | 28 => ⟨S10240x256, .f32⟩
  | 29 => ⟨S10240x256, .f32⟩
  | 30 => ⟨S10240x256, .bf16⟩
  | 31 => ⟨S_, .i32⟩
  | 32 => ⟨S10240x4096, .i32⟩
  | 33 => ⟨S10240x4096, .i32⟩
  | 34 => ⟨S_, .i32⟩
  | 35 => ⟨S10240x4096, .i32⟩
  | 36 => ⟨S10240x4096, .i1⟩
  | 37 => ⟨S_, .i32⟩
  | 38 => ⟨S10240x4096, .i32⟩
  | 39 => ⟨S10240x4096, .i32⟩
  | 40 => ⟨S_, .i32⟩
  | 41 => ⟨S10240x4096, .i32⟩
  | 42 => ⟨S10240x4096, .i1⟩
  | 43 => ⟨S_, .i32⟩
  | 44 => ⟨S10240x4096, .i32⟩
  | 45 => ⟨S10240x4096, .i32⟩
  | 46 => ⟨S_, .i32⟩
  | 47 => ⟨S10240x4096, .i32⟩
  | 48 => ⟨S10240x4096, .i1⟩
  | 49 => ⟨S_, .i32⟩
  | 50 => ⟨S10240x4096, .i32⟩
  | 51 => ⟨S10240x4096, .i32⟩
  | 52 => ⟨S_, .i32⟩
  | 53 => ⟨S10240x4096, .i32⟩
  | 54 => ⟨S10240x4096, .i1⟩
  | 55 => ⟨S_, .bf16⟩
  | 56 => ⟨S_, .bf16⟩
  | 57 => ⟨S10240x4096, .bf16⟩
  | 58 => ⟨S10240x4096, .bf16⟩
  | 59 => ⟨S10240x4096, .bf16⟩
  | 60 => ⟨S_, .bf16⟩
  | 61 => ⟨S_, .bf16⟩
  | 62 => ⟨S10240x4096, .bf16⟩
  | 63 => ⟨S10240x4096, .bf16⟩
  | 64 => ⟨S10240x4096, .bf16⟩
  | 65 => ⟨S10240x4096, .bf16⟩
  | 66 => ⟨S_, .bf16⟩
  | 67 => ⟨S_, .bf16⟩
  | 68 => ⟨S10240x4096, .bf16⟩
  | 69 => ⟨S10240x4096, .bf16⟩
  | 70 => ⟨S10240x4096, .bf16⟩
  | 71 => ⟨S_, .bf16⟩
  | 72 => ⟨S_, .bf16⟩
  | 73 => ⟨S10240x4096, .bf16⟩
  | 74 => ⟨S10240x4096, .bf16⟩
  | 75 => ⟨S10240x4096, .bf16⟩
  | 76 => ⟨S10240x4096, .bf16⟩
  | 77 => ⟨S10240x4096, .bf16⟩
  | 78 => ⟨S10240x4096, .bf16⟩
  | 79 => ⟨S10240x4096, .bf16⟩
  | 80 => ⟨S10240x256x16, .bf16⟩
  | 81 => ⟨S10240x256x1, .bf16⟩
  | 82 => ⟨S10240x256x16, .bf16⟩
  | 83 => ⟨S10240x256x16, .bf16⟩
  | 84 => ⟨S10240x4096, .bf16⟩
  | 85 => ⟨S_, .i32⟩
  | 86 => ⟨S10240x4096, .i32⟩
  | 87 => ⟨S10240x4096, .i32⟩
  | 88 => ⟨S_, .i32⟩
  | 89 => ⟨S10240x4096, .i32⟩
  | 90 => ⟨S10240x4096, .i1⟩
  | 91 => ⟨S_, .i32⟩
  | 92 => ⟨S10240x4096, .i32⟩
  | 93 => ⟨S10240x4096, .i32⟩
  | 94 => ⟨S_, .i32⟩
  | 95 => ⟨S10240x4096, .i32⟩
  | 96 => ⟨S10240x4096, .i1⟩
  | 97 => ⟨S_, .i32⟩
  | 98 => ⟨S10240x4096, .i32⟩
  | 99 => ⟨S10240x4096, .i32⟩
  | 100 => ⟨S_, .i32⟩
  | 101 => ⟨S10240x4096, .i32⟩
  | 102 => ⟨S10240x4096, .i1⟩
  | 103 => ⟨S_, .i32⟩
  | 104 => ⟨S10240x4096, .i32⟩
  | 105 => ⟨S10240x4096, .i32⟩
  | 106 => ⟨S_, .i32⟩
  | 107 => ⟨S10240x4096, .i32⟩
  | 108 => ⟨S10240x4096, .i1⟩
  | 109 => ⟨S_, .bf16⟩
  | 110 => ⟨S_, .bf16⟩
  | 111 => ⟨S10240x4096, .bf16⟩
  | 112 => ⟨S10240x4096, .bf16⟩
  | 113 => ⟨S10240x4096, .bf16⟩
  | 114 => ⟨S_, .bf16⟩
  | 115 => ⟨S_, .bf16⟩
  | 116 => ⟨S10240x4096, .bf16⟩
  | 117 => ⟨S10240x4096, .bf16⟩
  | 118 => ⟨S10240x4096, .bf16⟩
  | 119 => ⟨S10240x4096, .bf16⟩
  | 120 => ⟨S_, .bf16⟩
  | 121 => ⟨S_, .bf16⟩
  | 122 => ⟨S10240x4096, .bf16⟩
  | 123 => ⟨S10240x4096, .bf16⟩
  | 124 => ⟨S10240x4096, .bf16⟩
  | 125 => ⟨S_, .bf16⟩
  | 126 => ⟨S_, .bf16⟩
  | 127 => ⟨S10240x4096, .bf16⟩
  | _ => ⟨S4x384x8192, .bf16⟩

abbrev hbmTy0_1 (i : Nat) : BufTy := match i % 128 with
  | 0 => ⟨S10240x4096, .bf16⟩
  | 1 => ⟨S10240x4096, .bf16⟩
  | 2 => ⟨S10240x4096, .bf16⟩
  | 3 => ⟨S10240x4096, .bf16⟩
  | 4 => ⟨S10240x4096, .bf16⟩
  | 5 => ⟨S10240x4096, .bf16⟩
  | 6 => ⟨S10240x256x16, .bf16⟩
  | 7 => ⟨S10240x256x1, .bf16⟩
  | 8 => ⟨S10240x256x16, .bf16⟩
  | 9 => ⟨S10240x256x16, .bf16⟩
  | 10 => ⟨S10240x4096, .bf16⟩
  | 11 => ⟨S4x384x4096, .bf16⟩
  | 12 => ⟨S4x384x10240, .f32⟩
  | 13 => ⟨S4x384x4096, .bf16⟩
  | 14 => ⟨S4x384x10240, .f32⟩
  | 15 => ⟨S4x384x10240, .f32⟩
  | 16 => ⟨S4x384x10240, .bf16⟩
  | 17 => ⟨S1536x10240, .bf16⟩
  | _ => ⟨S4x384x8192, .bf16⟩

abbrev hbmTy (i : Nat) : BufTy := match i / 128 with
  | 0 => hbmTy0_0 i
  | 1 => hbmTy0_1 i
  | _ => ⟨S4x384x8192, .bf16⟩

abbrev bufTy : (tb : Table) → Fin (tcTables nBuf tb) → BufTy
  | .hbm, ⟨i, _⟩ => hbmTy i
  | _, _ => ⟨S4x384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_v15 : Ref sig .tc := ⟨.hbm, 26, rfl⟩
abbrev main_cst_5 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_c_6 : Ref sig .tc := ⟨.hbm, 31, rfl⟩
abbrev main_v18 : Ref sig .tc := ⟨.hbm, 32, rfl⟩
abbrev main_v19 : Ref sig .tc := ⟨.hbm, 33, rfl⟩
abbrev main_c_7 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_v23 : Ref sig .tc := ⟨.hbm, 39, rfl⟩
abbrev main_c_9 : Ref sig .tc := ⟨.hbm, 40, rfl⟩
abbrev main_v24 : Ref sig .tc := ⟨.hbm, 41, rfl⟩
abbrev main_v25 : Ref sig .tc := ⟨.hbm, 42, rfl⟩
abbrev main_c_10 : Ref sig .tc := ⟨.hbm, 43, rfl⟩
abbrev main_v26 : Ref sig .tc := ⟨.hbm, 44, rfl⟩
abbrev main_v27 : Ref sig .tc := ⟨.hbm, 45, rfl⟩
abbrev main_c_11 : Ref sig .tc := ⟨.hbm, 46, rfl⟩
abbrev main_v28 : Ref sig .tc := ⟨.hbm, 47, rfl⟩
abbrev main_v29 : Ref sig .tc := ⟨.hbm, 48, rfl⟩
abbrev main_c_12 : Ref sig .tc := ⟨.hbm, 49, rfl⟩
abbrev main_v30 : Ref sig .tc := ⟨.hbm, 50, rfl⟩
abbrev main_v31 : Ref sig .tc := ⟨.hbm, 51, rfl⟩
abbrev main_c_13 : Ref sig .tc := ⟨.hbm, 52, rfl⟩
abbrev main_v32 : Ref sig .tc := ⟨.hbm, 53, rfl⟩
abbrev main_v33 : Ref sig .tc := ⟨.hbm, 54, rfl⟩
abbrev main_cst_14 : Ref sig .tc := ⟨.hbm, 55, rfl⟩
abbrev main_cst_15 : Ref sig .tc := ⟨.hbm, 56, rfl⟩
abbrev main_call2_v0 : Ref sig .tc := ⟨.hbm, 57, rfl⟩
abbrev main_call2_v1 : Ref sig .tc := ⟨.hbm, 58, rfl⟩
abbrev main_v34 : Ref sig .tc := ⟨.hbm, 59, rfl⟩
abbrev main_cst_16 : Ref sig .tc := ⟨.hbm, 60, rfl⟩
abbrev main_cst_17 : Ref sig .tc := ⟨.hbm, 61, rfl⟩
abbrev main_call3_v0 : Ref sig .tc := ⟨.hbm, 62, rfl⟩
abbrev main_call3_v1 : Ref sig .tc := ⟨.hbm, 63, rfl⟩
abbrev main_v35 : Ref sig .tc := ⟨.hbm, 64, rfl⟩
abbrev main_v36 : Ref sig .tc := ⟨.hbm, 65, rfl⟩
abbrev main_cst_18 : Ref sig .tc := ⟨.hbm, 66, rfl⟩
abbrev main_cst_19 : Ref sig .tc := ⟨.hbm, 67, rfl⟩
abbrev main_call5_v0 : Ref sig .tc := ⟨.hbm, 68, rfl⟩
abbrev main_call5_v1 : Ref sig .tc := ⟨.hbm, 69, rfl⟩
abbrev main_v37 : Ref sig .tc := ⟨.hbm, 70, rfl⟩
abbrev main_cst_20 : Ref sig .tc := ⟨.hbm, 71, rfl⟩
abbrev main_cst_21 : Ref sig .tc := ⟨.hbm, 72, rfl⟩
abbrev main_call6_v0 : Ref sig .tc := ⟨.hbm, 73, rfl⟩
abbrev main_call6_v1 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_22 : Ref sig .tc := ⟨.hbm, 85, rfl⟩
abbrev main_v48 : Ref sig .tc := ⟨.hbm, 86, rfl⟩
abbrev main_v49 : Ref sig .tc := ⟨.hbm, 87, rfl⟩
abbrev main_c_23 : Ref sig .tc := ⟨.hbm, 88, rfl⟩
abbrev main_v50 : Ref sig .tc := ⟨.hbm, 89, rfl⟩
abbrev main_v51 : Ref sig .tc := ⟨.hbm, 90, rfl⟩
abbrev main_c_24 : Ref sig .tc := ⟨.hbm, 91, rfl⟩
abbrev main_v52 : Ref sig .tc := ⟨.hbm, 92, rfl⟩
abbrev main_v53 : Ref sig .tc := ⟨.hbm, 93, rfl⟩
abbrev main_c_25 : Ref sig .tc := ⟨.hbm, 94, rfl⟩
abbrev main_v54 : Ref sig .tc := ⟨.hbm, 95, rfl⟩
abbrev main_v55 : Ref sig .tc := ⟨.hbm, 96, rfl⟩
abbrev main_c_26 : Ref sig .tc := ⟨.hbm, 97, rfl⟩
abbrev main_v56 : Ref sig .tc := ⟨.hbm, 98, rfl⟩
abbrev main_v57 : Ref sig .tc := ⟨.hbm, 99, rfl⟩
abbrev main_c_27 : Ref sig .tc := ⟨.hbm, 100, rfl⟩
abbrev main_v58 : Ref sig .tc := ⟨.hbm, 101, rfl⟩
abbrev main_v59 : Ref sig .tc := ⟨.hbm, 102, rfl⟩
abbrev main_c_28 : Ref sig .tc := ⟨.hbm, 103, rfl⟩
abbrev main_v60 : Ref sig .tc := ⟨.hbm, 104, rfl⟩
abbrev main_v61 : Ref sig .tc := ⟨.hbm, 105, rfl⟩
abbrev main_c_29 : Ref sig .tc := ⟨.hbm, 106, rfl⟩
abbrev main_v62 : Ref sig .tc := ⟨.hbm, 107, rfl⟩
abbrev main_v63 : Ref sig .tc := ⟨.hbm, 108, rfl⟩
abbrev main_cst_30 : Ref sig .tc := ⟨.hbm, 109, rfl⟩
abbrev main_cst_31 : Ref sig .tc := ⟨.hbm, 110, rfl⟩
abbrev main_call10_v0 : Ref sig .tc := ⟨.hbm, 111, rfl⟩
abbrev main_call10_v1 : Ref sig .tc := ⟨.hbm, 112, rfl⟩
abbrev main_v64 : Ref sig .tc := ⟨.hbm, 113, rfl⟩
abbrev main_cst_32 : Ref sig .tc := ⟨.hbm, 114, rfl⟩
abbrev main_cst_33 : Ref sig .tc := ⟨.hbm, 115, rfl⟩
abbrev main_call11_v0 : Ref sig .tc := ⟨.hbm, 116, rfl⟩
abbrev main_call11_v1 : Ref sig .tc := ⟨.hbm, 117, rfl⟩
abbrev main_v65 : Ref sig .tc := ⟨.hbm, 118, rfl⟩
abbrev main_v66 : Ref sig .tc := ⟨.hbm, 119, rfl⟩
abbrev main_cst_34 : Ref sig .tc := ⟨.hbm, 120, rfl⟩
abbrev main_cst_35 : Ref sig .tc := ⟨.hbm, 121, rfl⟩
abbrev main_call13_v0 : Ref sig .tc := ⟨.hbm, 122, rfl⟩
abbrev main_call13_v1 : Ref sig .tc := ⟨.hbm, 123, rfl⟩
abbrev main_v67 : Ref sig .tc := ⟨.hbm, 124, rfl⟩
abbrev main_cst_36 : Ref sig .tc := ⟨.hbm, 125, rfl⟩
abbrev main_cst_37 : Ref sig .tc := ⟨.hbm, 126, rfl⟩
abbrev main_call14_v0 : Ref sig .tc := ⟨.hbm, 127, rfl⟩
abbrev main_call14_v1 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩

abbrev nD : Nat := 1
abbrev τ : Topo := Topo.v7x

variable {F : FTy → Type} [FloatOps F]
-- ==== Proof.Words.lean ====
/- What the kernel's body computes from one code byte, one scale byte and one block of 32 weights: the packed 32-bit words,
   their halves read as bf16, and the three vector payloads of the body read at an index. Nothing here depends on how the
   floating-point operations are read. -/
module

public import proofs.«01_k».proof.Proof.Gen.KernelIdeal.Skeleton
public import Idealize.ShloMosaic.Lib.Pipeline.ValueKit
public import Idealize.ShloMosaic.Lib.Pointwise
public import Idealize.ShloMosaic.Lib.BitcastPair

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-! ## The scalars -/

/-- A 32-bit word's low half (`p = 0`) or high half (`p = 1`), read as a bf16. -/
def half (w : BitVec 32) (p : ℕ) : F .bf16 := FloatOps.ofBits .bf16 (BitVec.extractLsb' (16 * p) 16 w)

/-- A code byte spread over a word: its low nibble stands at bit 0, its high nibble at bit 16. -/
def spread (c : BitVec 8) : BitVec 32 :=
  IntOp.ori (BitVec.setWidth 32 c) (IntOp.shli ArithUnit.vector (BitVec.setWidth 32 c) 12#32)

/-- Per half, the bf16 word whose exponent and top mantissa bit are the nibble's three magnitude bits over a bias. -/
def magWord (c : BitVec 8) : BitVec 32 :=
  IntOp.addi (IntOp.shli ArithUnit.vector (IntOp.andi (spread c) 458759#32) 6#32) 1056980736#32

/-- Per half, the bf16 word of plus or minus one, by the nibble's sign bit. -/
def signWord (c : BitVec 8) : BitVec 32 :=
  IntOp.ori (IntOp.shli ArithUnit.vector (IntOp.andi (spread c) 524296#32) 12#32) 1065369472#32

/-- The value of nibble `p` of a code byte as the body computes it: with `y` the biased magnitude,
    `min y (y + y - 1)` times the sign. -/
def codeVal (c : BitVec 8) (p : ℕ) : F .bf16 :=
  FloatOps.mulf
    (FloatOps.minimumf (half (magWord c) p)
      (FloatOps.subf (FloatOps.addf (half (magWord c) p) (half (magWord c) p)) (FloatOps.ofBits .bf16 16256#16)))
    (half (signWord c) p)

/-- A scale byte in the exponent field of both halves of a word. -/
def scaleWord (s : BitVec 8) : BitVec 32 :=
  IntOp.ori (IntOp.shli ArithUnit.vector (BitVec.setWidth 32 s) 7#32)
    (IntOp.shli ArithUnit.vector (IntOp.shli ArithUnit.vector (BitVec.setWidth 32 s) 7#32) 16#32)

/-! ## The payloads at an index -/

/-- Rows of 32-bit words reinterpreted as twice as many rows of 16-bit words: row `r` is a half of row `r / 2`. -/
theorem bitcast_rows {R R' C : ℕ} (x : (⟨2, ![R, C]⟩ : Shape).Idx → BitVec 32)
    (h : (⟨2, ![R, C]⟩ : Shape).Bitcasts 32 ⟨2, ![R', C]⟩ 16) (r : Fin R') (n : Fin C) (hr : r.val / 2 < R) :
    bitcast ⟨2, ![R', C]⟩ 16 x h (ix2 r n) = (x (ix2 ⟨r.val / 2, hr⟩ n)).extractLsb' (16 * (r.val % 2)) 16 := by
  rw [bitcast_32_16]
  have e : Shape.row ⟨2, ![R', C]⟩ (ix2 r n) = r.val := rfl
  have e2 : h.srcIdx (ix2 r n) (Shape.row ⟨2, ![R', C]⟩ (ix2 r n) / 2) (fun a ha => by
        have := h.pos_lt (ix2 r n) 0 (by decide) a ha; omega) = ix2 ⟨r.val / 2, hr⟩ n := by
    funext a; apply Fin.ext
    match a with
    | ⟨0, _⟩ => exact h.srcIdx_row _ _ _ _ rfl
    | ⟨1, _⟩ => exact h.srcIdx_other _ _ _ _ (by show ¬ (1 + 2 = 2); omega)
  rw [e2, e]

/-- The decoded tile: row `r`, column `n` is nibble `r % 2` of code byte `r / 2` of weight row `n`. -/
theorem tile_at (v : Vec F S256x128 .i8) (r n : Fin 256) :
    k0_pay3 (F := F) v (ix2 r n) = codeVal (v (ix2 n ⟨r.val / 2, by omega⟩)) (r.val % 2) := by
  unfold k0_pay3
  simp only [mulf_apply, minimumf_apply, subf_apply, addf_apply, bitcastToFloat_apply]
  rw [bitcast_rows _ _ _ _ (by omega : r.val / 2 < 128), bitcast_rows _ _ _ _ (by omega : r.val / 2 < 128)]
  pointwise
  rfl

/-- The transposed scale words: row `r`, column `n` is the word of scale byte `r` of weight row `n`. -/
theorem scales_at (v : Vec F S256x256 .i8) (r n : Fin 256) :
    k0_pay2 (F := F) v (ix2 r n) = scaleWord (v (ix2 n r)) := by
  unfold k0_pay2
  pointwise
  rfl

/-- One stored block of 32 rows: rows `o` and on of the decoded tile, each times the block's scale, which is read
    alternately from the low and the high halves of one row of scale words. -/
theorem piece_at (v : Vec F S256x128 .i8) (row : Vec F S1x256 .i32) (o : ℕ) (hs : S256x256.Slices ![o, 0] S32x256)
    (x0 : Fin 32) (x1 : Fin 256) (ho : o + x0.val < 256) :
    shapeCast S32x256 (mulf (extractStridedSlice S32x256 ![o, 0] (k0_pay3 v) hs)
      (bitcastToFloat .bf16 (bitcast S32x256 16
        (broadcastTo S16x256 (shapeCast S1x256 row shapeCasts_S1x256_S1x256) broadcasts_S1x256_S16x256)
        bitcasts_S16x256_w32_S32x256_w16))) shapeCasts_S32x256_S32x256 (ix2 x0 x1)
      = FloatOps.mulf (codeVal (v (ix2 x1 ⟨(o + x0.val) / 2, by omega⟩)) ((o + x0.val) % 2))
          (half (row (ix2 0 x1)) (x0.val % 2)) := by
  rw [shapeCast_self]
  simp only [mulf_apply, bitcastToFloat_apply]
  rw [bitcast_rows _ _ _ _ (by omega : x0.val / 2 < 16), shapeCast_self]
  rw [extractStridedSlice_apply _ _ _ (ix2 x0 x1) (ix2 ⟨o + x0.val, ho⟩ x1)
    (fun a => match a with | ⟨0, _⟩ => rfl | ⟨1, _⟩ => by simp), tile_at]
  pointwise
  rfl

end Cert.KernelIdeal.Tile

end
-- ==== Proof.Weights.lean ====
/- What the kernel's weight scratch holds when the product reads it: the 256 stores of one grid point, each a block of 32 rows,
   leave one array, the dequantized weights, transposed. -/
module

public import proofs.«01_k».proof.Proof.Words
public import proofs.«01_k».proof.Proof.Gen.KernelIdeal.Value
public import Idealize.ShloMosaic.Lib.WholeRead

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- The dequantized weight of one grid point's tile: input column `r`, weight row `n`. Code byte `b` carries columns
    `2 b` and `2 b + 1` in its nibbles; scale byte `k` scales the 32 columns from `32 k`. -/
def weight (x1 : Vec F S256x4096 .i8) (x2 : Vec F S256x256 .i8) (r : Fin 8192) (n : Fin 256) : F .bf16 :=
  FloatOps.mulf (codeVal (x1 (ix2 n ⟨r.val / 2, by omega⟩)) (r.val % 2))
    (half (scaleWord (x2 (ix2 n ⟨r.val / 32, by omega⟩))) (r.val % 2))

variable (c : Dev nD) (arg2 : Memref sig .tc .vmem S256x4096 .i8) (harg2 : arg2.IsWhole)
  (arg3 : Memref sig .tc .vmem S256x256 .i8) (harg3 : arg3.IsWhole) (arg5 : Memref sig .tc .vmem S8192x256 .bf16)
  (arg6 : Memref sig .tc .vmem S256x256 .i32) (x1 : Vec F S256x4096 .i8) (x2 : Vec F S256x256 .i8)

/-- The load of 128 columns of code bytes, at an index. -/
theorem codes_at (c0 : ℕ)
    (inb : ∀ a, (![0, c0] : Fin 2 → ℕ) a + S256x128.size a ≤ S256x4096.size a) (n : Fin 256) (j : Fin 128) (hc : c0 + j.val < 4096) :
    View.readAt (Elt F) arg2.view (Rect.unit (s := S256x4096) ![0, c0] S256x128.size inb).toLoadRect (harg2.unread x1) (ix2 n j)
      = x1 (ix2 n ⟨c0 + j.val, hc⟩) := by
  rw [Memref.IsWhole.readAt_unread]
  refine congrArg x1 (funext fun a => Fin.ext ?_)
  refine (Rect.idx_unit_val (s := S256x4096) _ _ inb (ix2 n j) a).trans ?_
  match a with
  | ⟨0, _⟩ => exact Nat.zero_add _
  | ⟨1, _⟩ => rfl

/-- The load of one row of scale words after their one store, at an index. -/
theorem row_at (k : ℕ)
    (inb : ∀ a, (![k, 0] : Fin 2 → ℕ) a + S1x256.size a ≤ S256x256.size a) (n : Fin 256) (hk : k < 256) :
    arg6.view.readCov (Gen.kernelRun0_A.sl.HS1_1 c arg3 harg3 x2) (Rect.unit (s := S256x256) ![k, 0] S1x256.size inb).toLoadRect (ix2 0 n)
      = scaleWord (x2 (ix2 n ⟨k, hk⟩)) := by
  rw [View.readCov_eq_canon']
  unfold Gen.kernelRun0_A.sl.HS1_1
  rw [View.canon_cons_unit_lit' _ _ _ (by decide)]
  have e : (Rect.unit (s := S256x256) ![k, 0] S1x256.size inb).toLoadRect.idx (ix2 0 n) = ix2 ⟨k, hk⟩ n :=
    funext fun a => Fin.ext ((Rect.idx_unit_val (s := S256x256) _ _ inb (ix2 0 n) a).trans
      (match a with
       | ⟨0, _⟩ => rfl
       | ⟨1, _⟩ => Nat.zero_add _))
  refine (congrArg (k0_pay2 _) e).trans ?_
  rw [scales_at, Memref.IsWhole.readAt_unread]
  refine congrArg (fun i => scaleWord (x2 i)) (funext fun a => Fin.ext ?_)
  refine (Rect.idx_unit_val (s := S256x256) _ _ _ (ix2 n ⟨k, hk⟩) a).trans ?_
  match a with
  | ⟨0, _⟩ => exact Nat.zero_add _
  | ⟨1, _⟩ => exact Nat.zero_add _

/-- One store of 32 rows is those rows of `weight`: block `o / 32` of the tile that starts at code byte `c0`, scaled by row `k`
    of the scale words. -/
theorem store_at (r : Fin 8192) (n : Fin 256) (y : S32x256.Idx) (c0 o k : ℕ)
     (hr : r.val = 32 * k + (y 0).val) (hn : n.val = (y 1).val) (hk : 2 * c0 + o = 32 * k) (ho : o + 32 ≤ 256) (h2 : o % 2 = 0)
     (hs : S256x256.Slices ![o, 0] S32x256)
     (inbc : ∀ a, (![0, c0] : Fin 2 → ℕ) a + S256x128.size a ≤ S256x4096.size a)
     (inbr : ∀ a, (![k, 0] : Fin 2 → ℕ) a + S1x256.size a ≤ S256x256.size a) :
   shapeCast S32x256 (mulf (extractStridedSlice S32x256 ![o, 0] (k0_pay3
        (View.readAt (Elt F) arg2.view (Rect.unit (s := S256x4096) ![0, c0] S256x128.size inbc).toLoadRect (harg2.unread x1))) hs)
      (bitcastToFloat .bf16 (bitcast S32x256 16 (broadcastTo S16x256 (shapeCast S1x256
        (arg6.view.readCov (Gen.kernelRun0_A.sl.HS1_1 c arg3 harg3 x2) (Rect.unit (s := S256x256) ![k, 0] S1x256.size inbr).toLoadRect)
         shapeCasts_S1x256_S1x256) broadcasts_S1x256_S16x256)
        bitcasts_S16x256_w32_S32x256_w16))) shapeCasts_S32x256_S32x256 y = weight x1 x2 r n := by
  idx_vars y
  have hr : r.val = 32 * k + y0.val := hr
  have hy : y0.val < 32 := y0.isLt
  obtain rfl : n = y1 := Fin.ext hn
  rw [piece_at _ _ _ _ _ _ (by omega)]
  refine (congrArg₂ FloatOps.mulf (congrArg (codeVal · _) (codes_at arg2 harg2 x1 c0 inbc n _ (by show c0 + (o + y0.val) / 2 < 4096; omega))) (congrArg (half · _) (row_at c arg3 harg3 arg6 x2 k inbr n (by omega)))).trans ?_
  have e1 : c0 + (o + y0.val) / 2 = r.val / 2 := by omega
  have e2 : r.val / 32 = k := by omega
  have e3 : r.val % 2 = y0.val % 2 := by omega
  have e4 : (o + y0.val) % 2 = y0.val % 2 := by omega
  simp only [weight, e1, e2, e3, e4]

set_option maxHeartbeats 8000000 in
/-- The 256 stores leave `weight`: whichever store holds an index, `store_at` reads it. -/
theorem canon_at (r : Fin 8192) (n : Fin 256) :
    View.canon (Gen.kernelRun0_A.sl.HS0_256 c arg2 harg2 arg3 harg3 arg6 x1 x2) (ix2 r n) = weight x1 x2 r n := by
  unfold Gen.kernelRun0_A.sl.HS0_256
  canon_tiles y h
  all_goals
    replace h0 : r.val = _ := h0
    exact store_at c arg2 harg2 arg3 harg3 arg6 x1 x2 r n y _ _ _ (by omega) h1 (by omega) (by omega) (by omega)
      (by decide) (by decide) (by decide)

/-- So what the product loads from the weight scratch is `weight`. -/
theorem loaded_weight :
    Gen.kernelRun0_A.sl.v3117 c arg2 harg2 arg3 harg3 arg5 arg6 x1 x2 = fun i => weight x1 x2 (i 0) (i 1) := by
  unfold Gen.kernelRun0_A.sl.v3117
  rw [View.readCov_eq_canon']
  funext i
  have e : (Rect.unit (s := S8192x256) ![0, 0] ![8192, 256] inb_S8192x256_S8192x256_0_0).toLoadRect.idx i = ix2 (i 0) (i 1) :=
    funext fun a => Fin.ext ((Rect.idx_unit_val (s := S8192x256) _ _ _ i a).trans
      (match a with
       | ⟨0, _⟩ => Nat.zero_add _
       | ⟨1, _⟩ => Nat.zero_add _))
  exact (congrArg (View.canon _) e).trans (canon_at c arg2 harg2 arg3 harg3 arg6 x1 x2 (i 0) (i 1))

end Cert.KernelIdeal.Tile

end
-- ==== Proof.Block.lean ====
/- What one grid point leaves in the output block: the product of the activations with the dequantized weights. -/
module

public import proofs.«01_k».proof.Proof.Weights

@[expose] public section

set_option maxRecDepth 16384

noncomputable section

namespace Cert.KernelIdeal.Tile

open Idealize.ShloMosaic Idealize.ShloMosaic.TcCoe Idealize.SL.Sem
open Cert.KernelIdeal Cert.KernelIdeal.Gen

variable {F : FTy → Type} [FloatOps F]

/-- The one store of the output block is the body's matrix product of the whole activations with `weight`. -/
theorem block_eq (c : Dev nD) (i : grid0.Coords) (arg1 : Memref sig .tc .vmem S1536x8192 .bf16) (harg1 : arg1.IsWhole)
    (arg2 : Memref sig .tc .vmem S256x4096 .i8) (harg2 : arg2.IsWhole) (arg3 : Memref sig .tc .vmem S256x256 .i8) (harg3 : arg3.IsWhole)
    (arg4 : Memref sig .tc .vmem S1536x256 .bf16) (harg4 : arg4.IsWhole) (arg5 : Memref sig .tc .vmem S8192x256 .bf16) (harg5 : arg5.IsWhole)
    (arg6 : Memref sig .tc .vmem S256x256 .i32) (harg6 : arg6.IsWhole)
    (x0 : Vec F S1536x8192 .bf16) (x1 : Vec F S256x4096 .i8) (x2 : Vec F S256x256 .i8) :
    out0_A_3 c i arg1 harg1 arg2 harg2 arg3 harg3 arg4 harg4 arg5 harg5 arg6 harg6 x0 x1 x2
      = k0_pay1 x0 (fun j => weight x1 x2 (j 0) (j 1)) := by
  unfold out0_A_3
  rw [View.read_writes_junk_eq_canon]
  unfold kernelRun0_A
  rw [View.canon_cons_unit_lit' _ _ _ (by decide), loaded_weight]
  refine congrArg (k0_pay1 · _) ?_
  funext j
  rw [Memref.IsWhole.readAt_unread]
  exact congrArg x0 (funext fun a => Fin.ext ((Rect.idx_unit_val (s := S1536x8192) _ _ _ j a).trans
    (match a with
     | ⟨0, _⟩ => Nat.zero_add _
     | ⟨1, _⟩ => Nat.zero_add _)))

/-- The same for grid point `t`, over the blocks its windows hold. -/
theorem outs_eq (m : (ℓ : Loc nD τ sig) → Buf (Elt F) ℓ) (c : Dev nD) (t : Fin cfg0.N) :
    outsAt0 m c t = k0_pay1 (iblk m c 0 t) (fun j => weight (iblk m c 1 t) (iblk m c 2 t) (j 0) (j 1)) :=
  block_eq c _ _ _ _ _ _ _ _ _ _ _ _ _ _ _ _

end Cert.KernelIdeal.Tile

end
-- ==== Proof.Scalars.lean ====
/- The values of a code nibble and of a scale byte over the extended reals, and that the kernel's bit work computes them. -/
module

public import proofs.«01_k».proof.Proof.Words
public import Idealize.ShloMosaic.PureOps.Ideal

@[expose] public section

set_option maxRecDepth 16384

noncomputable section

namespace Cert.Value

open Idealize.ShloMosaic Idealize.ShloMosaic.TcCoe

/-- The eight magnitudes of an E2M1 code. -/
def mag : ℕ → ℝ
  | 0 => 0
  | 1 => 1 / 2
  | 2 => 1
  | 3 => 3 / 2
  | 4 => 2
  | 5 => 3
  | 6 => 4
  | _ => 6

/-- The value of an E2M1 code `0 … 15`: bit 3 is the sign. -/
def e2m1 (q : ℕ) : ℝ := if q < 8 then mag q else -mag (q - 8)

/-- Nibble `p` of a byte: the low one for `p = 0`, the high one for `p = 1`. -/
def nibble (c : BitVec 8) (p : ℕ) : ℕ := c.toNat / 16 ^ p % 16

/-- The value of a scale byte: `2 ^ (s - 127)`, with `2 ^ (-127)` flushed to zero and `2 ^ 128` infinite. -/
def scale (s : BitVec 8) : EReal :=
  if s.toNat = 0 then 0 else if s.toNat = 255 then ⊤ else (((2 : ℝ) ^ ((s.toNat : ℤ) - 127) : ℝ) : EReal)

/-- A nibble is below sixteen. -/
theorem nibble_lt (c : BitVec 8) (p : ℕ) : nibble c p < 16 := Nat.mod_lt _ (by omega)

/-! ## The kernel's words -/

/-- Each half of the magnitude word: the nibble's three magnitude bits on top of the mantissa and in the exponent. -/
theorem half_magWord : ∀ c : BitVec 8, ∀ p : Fin 2,
    (Cert.KernelIdeal.Tile.magWord c).extractLsb' (16 * p.val) 16 = BitVec.ofNat 16 (0x3F00 + 64 * (nibble c p % 8)) := by
  decide +kernel

/-- Each half of the sign word: one, or minus one where the nibble's sign bit is set. -/
theorem half_signWord : ∀ c : BitVec 8, ∀ p : Fin 2,
    (Cert.KernelIdeal.Tile.signWord c).extractLsb' (16 * p.val) 16
      = if nibble c p < 8 then 0x3F80#16 else 0xBF80#16 := by
  decide +kernel

/-- Both halves of the scale word: the scale byte in the exponent field. -/
theorem half_scaleWord : ∀ s : BitVec 8, ∀ p : Fin 2,
    (Cert.KernelIdeal.Tile.scaleWord s).extractLsb' (16 * p.val) 16 = BitVec.ofNat 16 (128 * s.toNat) := by
  decide +kernel

/-- The bf16 constant one. -/
theorem ofBits_one : (Ideal.ofBits .bf16 0x3F80#16 : EReal) = ((1 : ℝ) : EReal) := by
  simp [Ideal.ofBits, Ideal.ieee, -EReal.coe_mul]
  norm_num

/-- The bf16 constant minus one. -/
theorem ofBits_neg_one : (Ideal.ofBits .bf16 0xBF80#16 : EReal) = ((-1 : ℝ) : EReal) := by
  simp [Ideal.ofBits, Ideal.ieee, -EReal.coe_mul]
  norm_num

/-- The biased magnitudes `1/2, 3/4, 1, 3/2, 2, 3, 4, 6`. -/
def biased : ℕ → ℝ
  | 0 => 1 / 2
  | 1 => 3 / 4
  | 2 => 1
  | 3 => 3 / 2
  | 4 => 2
  | 5 => 3
  | 6 => 4
  | _ => 6

/-- The eight magnitude words read as bf16. -/
theorem ofBits_biased (k : ℕ) (hk : k < 8) : (Ideal.ofBits .bf16 (BitVec.ofNat 16 (0x3F00 + 64 * k)) : EReal) = ((biased k : ℝ) : EReal) := by
  interval_cases k <;> simp [Ideal.ofBits, Ideal.ieee, biased, -EReal.coe_mul] <;> norm_num

/-- Undoing the bias: `min y (2 y - 1)` is the magnitude. -/
theorem min_biased (k : ℕ) (hk : k < 8) : min (biased k) (biased k + biased k - 1) = mag k := by
  interval_cases k <;> simp only [biased, mag] <;> norm_num

/-- The body's value of a nibble is its E2M1 value. -/
theorem codeVal_eq (c : BitVec 8) (p : ℕ) (hp : p < 2) :
    (Cert.KernelIdeal.Tile.codeVal (F := Ideal) c p : EReal) = ((e2m1 (nibble c p) : ℝ) : EReal) := by
  have hm : (Cert.KernelIdeal.Tile.half (F := Ideal) (Cert.KernelIdeal.Tile.magWord c) p : EReal) = ((biased (nibble c p % 8) : ℝ) : EReal) :=
    (congrArg (Ideal.ofBits .bf16) (half_magWord c ⟨p, hp⟩)).trans (ofBits_biased _ (Nat.mod_lt _ (by omega)))
  have hs : (Cert.KernelIdeal.Tile.half (F := Ideal) (Cert.KernelIdeal.Tile.signWord c) p : EReal)
      = (((if nibble c p < 8 then 1 else -1 : ℝ) : ℝ) : EReal) := by
    refine (congrArg (Ideal.ofBits .bf16) (half_signWord c ⟨p, hp⟩)).trans ?_
    show Ideal.ofBits .bf16 (if nibble c p < 8 then 0x3F80#16 else 0xBF80#16) = _
    split
    · exact ofBits_one
    · exact ofBits_neg_one
  have key : (min (biased (nibble c p % 8) : EReal) ((biased (nibble c p % 8) : EReal) + (biased (nibble c p % 8) : EReal) - ((1 : ℝ) : EReal)))
      = ((mag (nibble c p % 8) : ℝ) : EReal) := by
    rw [← EReal.coe_add, ← EReal.coe_sub, ← EReal.coe_strictMono.monotone.map_min, min_biased _ (Nat.mod_lt _ (by omega))]
  show (min (Cert.KernelIdeal.Tile.half (F := Ideal) (Cert.KernelIdeal.Tile.magWord c) p : EReal)
      ((Cert.KernelIdeal.Tile.half (F := Ideal) (Cert.KernelIdeal.Tile.magWord c) p : EReal)
        + (Cert.KernelIdeal.Tile.half (F := Ideal) (Cert.KernelIdeal.Tile.magWord c) p : EReal) - (Ideal.ofBits .bf16 0x3F80#16 : EReal)) : EReal)
      * (Cert.KernelIdeal.Tile.half (F := Ideal) (Cert.KernelIdeal.Tile.signWord c) p : EReal) = _
  rw [hm, hs, ofBits_one, key, ← EReal.coe_mul]
  have := nibble_lt c p
  congr 1
  unfold e2m1
  split
  · rename_i h; rw [Nat.mod_eq_of_lt h, mul_one]
  · rename_i h; rw [show nibble c p % 8 = nibble c p - 8 by omega]; ring

/-- The body's value of a scale byte is its scale. -/
theorem scaleWord_eq (s : BitVec 8) (p : ℕ) (hp : p < 2) :
    (Cert.KernelIdeal.Tile.half (F := Ideal) (Cert.KernelIdeal.Tile.scaleWord s) p : EReal) = scale s := by
  refine (congrArg (Ideal.ofBits .bf16) (half_scaleWord s ⟨p, hp⟩)).trans ?_
  have h1 : ((BitVec.ofNat 16 (128 * s.toNat)).extractLsb' (8 + 7) 1 == 1#1) = false := by
    revert s; decide +kernel
  have h2 : ((BitVec.ofNat 16 (128 * s.toNat)).extractLsb' 7 8).toNat = s.toNat := by
    revert s; decide +kernel
  have h3 : ((BitVec.ofNat 16 (128 * s.toNat)).extractLsb' 0 7).toNat = 0 := by
    revert s; decide +kernel
  show Ideal.ieee 8 7 (BitVec.ofNat 16 (128 * s.toNat)) = _
  unfold Ideal.ieee scale
  simp only [h1, h2, h3]
  by_cases h0 : s.toNat = 0
  · simp [h0]
  · by_cases h255 : s.toNat = 255
    · simp [h255]
    · simp only [h0, h255, if_false, Bool.false_eq_true]
      norm_num
      rw [if_neg h255]
      congr 1
      rw [show ((s.toNat : ℤ) - 127) = ((s.toNat : ℤ) - 127 - 7) + 7 by ring, zpow_add₀ (by norm_num : (2:ℝ) ≠ 0) _ 7]
      rw [mul_comm]
      norm_num

/-! ## The reference's words -/

/-- The reference's decoding of a code: three selects for the magnitude, one for the sign. -/
def sel {F : FTy → Type} [FloatOps F] (q : BitVec 32) : F .bf16 :=
  let m : F .bf16 :=
    Scalar.select (IntOp.cmpi .ne (IntOp.andi q 4#32) 0#32)
      (Scalar.select (IntOp.cmpi .ne (IntOp.andi q 2#32) 0#32)
        (Scalar.select (IntOp.cmpi .ne (IntOp.andi q 1#32) 0#32) (FloatOps.ofBits .bf16 0x40C0#16) (FloatOps.ofBits .bf16 0x4080#16))
        (Scalar.select (IntOp.cmpi .ne (IntOp.andi q 1#32) 0#32) (FloatOps.ofBits .bf16 0x4040#16) (FloatOps.ofBits .bf16 0x4000#16)))
      (Scalar.select (IntOp.cmpi .ne (IntOp.andi q 2#32) 0#32)
        (Scalar.select (IntOp.cmpi .ne (IntOp.andi q 1#32) 0#32) (FloatOps.ofBits .bf16 0x3FC0#16) (FloatOps.ofBits .bf16 0x3F80#16))
        (Scalar.select (IntOp.cmpi .ne (IntOp.andi q 1#32) 0#32) (FloatOps.ofBits .bf16 0x3F00#16) (FloatOps.ofBits .bf16 0x0000#16)))
  Scalar.select (IntOp.cmpi .ne (IntOp.andi q 8#32) 0#32) (FloatOps.hostNegf m) m

/-- The magnitude words of the reference. -/
theorem ofBits_mag :
    (FloatOps.ofBits (F := Ideal) .bf16 0x40C0#16 : EReal) = ((6 : ℝ) : EReal) ∧ (FloatOps.ofBits (F := Ideal) .bf16 0x4080#16 : EReal) = ((4 : ℝ) : EReal)
    ∧ (FloatOps.ofBits (F := Ideal) .bf16 0x4040#16 : EReal) = ((3 : ℝ) : EReal) ∧ (FloatOps.ofBits (F := Ideal) .bf16 0x4000#16 : EReal) = ((2 : ℝ) : EReal)
    ∧ (FloatOps.ofBits (F := Ideal) .bf16 0x3FC0#16 : EReal) = ((3 / 2 : ℝ) : EReal) ∧ (FloatOps.ofBits (F := Ideal) .bf16 0x3F80#16 : EReal) = ((1 : ℝ) : EReal)
    ∧ (FloatOps.ofBits (F := Ideal) .bf16 0x3F00#16 : EReal) = ((1 / 2 : ℝ) : EReal) ∧ (FloatOps.ofBits (F := Ideal) .bf16 0x0000#16 : EReal) = ((0 : ℝ) : EReal) := by
  refine ⟨?_, ?_, ?_, ?_, ?_, ?_, ?_, ?_⟩ <;>
    show Ideal.ofBits .bf16 _ = _ <;> simp [Ideal.ofBits, Ideal.ieee, -EReal.coe_mul] <;> norm_num

/-- The reference decodes every code to its E2M1 value. -/
theorem sel_eq (q : ℕ) (hq : q < 16) : (sel (F := Ideal) (BitVec.ofNat 32 q) : EReal) = ((e2m1 q : ℝ) : EReal) := by
  obtain ⟨h6, h4, h3, h2, h15, h1, h5, h0⟩ := ofBits_mag
  unfold sel
  rw [h6, h4, h3, h2, h15, h1, h5, h0]
  interval_cases q <;> simp [Scalar.select, IntOp.cmpi, IntOp.andi, e2m1, mag]

/-- The low nibble by a mask. -/
theorem lo_word : ∀ c : BitVec 8, IntOp.andi (c.setWidth 32) 15#32 = BitVec.ofNat 32 (nibble c 0) := by decide +kernel
/-- The high nibble by a shift. -/
theorem hi_word : ∀ c : BitVec 8, IntOp.shrsi .host (c.setWidth 32) 4#32 = BitVec.ofNat 32 (nibble c 1) := by decide +kernel

/-- The reference's scale of a byte: a power of two, flushed to zero below and infinite above. -/
def pow2 {F : FTy → Type} [FloatOps F] (s : BitVec 8) : F .f32 :=
  let e := IntOp.subi (s.setWidth 32) 127#32
  Scalar.select (IntOp.cmpi .slt e 4294967170#32) (FloatOps.ofBits .f32 0x00000000#32)
    (Scalar.select (IntOp.cmpi .sgt e 127#32) (FloatOps.ofBits .f32 0x7F800000#32)
      (FloatOps.hostPowf (FloatOps.ofBits .f32 0x40000000#32) (FloatOps.sitofp .f32 e)))

/-- The reference's scale of every byte is `scale`. -/
theorem pow2_eq (s : BitVec 8) : (pow2 (F := Ideal) s : EReal) = scale s := by
  have h2 : (FloatOps.ofBits (F := Ideal) .f32 0x40000000#32 : EReal) = ((2 : ℝ) : EReal) := by
    show Ideal.ofBits .f32 _ = _; simp [Ideal.ofBits, Ideal.ieee, -EReal.coe_mul]; norm_num
  have h0 : (FloatOps.ofBits (F := Ideal) .f32 0x00000000#32 : EReal) = 0 := by
    show Ideal.ofBits .f32 _ = _; simp [Ideal.ofBits, Ideal.ieee, -EReal.coe_mul]
  have ht : (FloatOps.ofBits (F := Ideal) .f32 0x7F800000#32 : EReal) = ⊤ := by
    show Ideal.ofBits .f32 _ = _; simp [Ideal.ofBits, Ideal.ieee, -EReal.coe_mul]
  have hlo : IntOp.cmpi .slt (IntOp.subi (s.setWidth 32) 127#32) 4294967170#32 = BitVec.ofBool (decide (s.toNat = 0)) := by
    revert s; decide +kernel
  have hhi : IntOp.cmpi .sgt (IntOp.subi (s.setWidth 32) 127#32) 127#32 = BitVec.ofBool (decide (s.toNat = 255)) := by
    revert s; decide +kernel
  have he : (IntOp.subi (s.setWidth 32) 127#32).toInt = (s.toNat : ℤ) - 127 := by
    revert s; decide +kernel
  have hp : (FloatOps.hostPowf (F := Ideal) (φ := .f32) ((2 : ℝ) : EReal) (FloatOps.sitofp .f32 (IntOp.subi (s.setWidth 32) 127#32)) : EReal)
      = (((2 : ℝ) ^ ((s.toNat : ℤ) - 127) : ℝ) : EReal) := by
    show Ideal.pow ((2 : ℝ) : EReal) (((IntOp.subi (s.setWidth 32) 127#32).toInt : ℝ) : EReal) = _
    rw [he]
    show ((Real.rpow 2 ((((s.toNat : ℤ) - 127 : ℤ) : ℝ)) : ℝ) : EReal) = _
    exact congrArg _ (Real.rpow_intCast 2 _)
  unfold pow2 scale
  dsimp only
  rw [hlo, hhi, h2, hp, h0, ht]
  by_cases z : s.toNat = 0
  · simp [z, Scalar.select]
  · by_cases t : s.toNat = 255
    · simp [t, Scalar.select]
    · simp [z, t, Scalar.select]

end Cert.Value

end
-- ==== Proof.Product.lean ====
/- The one array both programs are shown to compute: the activations against the dequantized weights. -/
module

public import proofs.«01_k».proof.Proof.Scalars

@[expose] public section

set_option maxRecDepth 16384

noncomputable section

namespace Cert.Value

open Idealize.ShloMosaic Idealize.ShloMosaic.TcCoe

/-- Entry `(r, n)` of the dequantized weights: nibble `r % 2` of code byte `r / 2` of row `n`, times the scale of its 32 columns. -/
def wt (C : Vec Ideal ⟨2, ![10240, 4096]⟩ .i8) (S : Vec Ideal ⟨2, ![10240, 256]⟩ .i8) (r : Fin 8192) (n : Fin 10240) : EReal :=
  ((e2m1 (nibble (C (ix2 n ⟨r.val / 2, by omega⟩)) (r.val % 2)) : ℝ) : EReal) * scale (S (ix2 n ⟨r.val / 32, by omega⟩))

/-- The result: row `i 0` of the activations, flattened over batch and sequence, against row `i 1` of the dequantized weights. -/
def product (x : Vec Ideal ⟨3, ![4, 384, 8192]⟩ .bf16) (C : Vec Ideal ⟨2, ![10240, 4096]⟩ .i8) (S : Vec Ideal ⟨2, ![10240, 256]⟩ .i8) :
    Vec Ideal ⟨2, ![1536, 10240]⟩ .bf16 := fun i =>
  (∑ r : Fin 8192, (show EReal from x (ix3 ⟨(i 0).val / 384, Nat.div_lt_of_lt_mul (i 0).isLt⟩ ⟨(i 0).val % 384, Nat.mod_lt _ (by omega)⟩ r))
    * wt C S r (i 1) : EReal)

end Cert.Value

end
-- ==== Proof.KernelValue.lean ====
/- The kernel's result array over the extended reals. -/
module

public import proofs.«01_k».proof.Proof.Block
public import proofs.«01_k».proof.Proof.Product

@[expose] public section

set_option maxRecDepth 16384

noncomputable section

namespace Cert.KernelIdeal.Tile

open Idealize.ShloMosaic Idealize.ShloMosaic.TcCoe Idealize.SL.Sem
open Cert.KernelIdeal Cert.KernelIdeal.Gen

/-- A tile's weight is the value of its code times the value of its scale. -/
theorem weight_eq (x1 : Vec Ideal S256x4096 .i8) (x2 : Vec Ideal S256x256 .i8) (r : Fin 8192) (n : Fin 256) :
    (weight x1 x2 r n : EReal) = ((Cert.Value.e2m1 (Cert.Value.nibble (x1 (ix2 n ⟨r.val / 2, by omega⟩)) (r.val % 2)) : ℝ) : EReal)
      * Cert.Value.scale (x2 (ix2 n ⟨r.val / 32, by omega⟩)) :=
  congrArg₂ (fun a b : EReal => a * b) (Cert.Value.codeVal_eq _ _ (Nat.mod_lt _ (by omega))) (Cert.Value.scaleWord_eq _ _ (Nat.mod_lt _ (by omega)))

/-- The body's product at an index: the sum over the 8192 columns. -/
theorem dot_at (x0 : Vec Ideal S1536x8192 .bf16) (w : Vec Ideal S8192x256 .bf16) (p : Fin 1536) (n : Fin 256) :
    (k0_pay1 x0 w (ix2 p n) : EReal) = ∑ r : Fin 8192, (show EReal from x0 (ix2 p r)) * (show EReal from w (ix2 r n)) := by
  pointwise [k0_pay1]

variable (m : (ℓ : Loc nD τ sig) → Buf (Elt Ideal) ℓ)

/-- Where the windows stand at grid point `t`: the activations whole, codes, scales and the result at their `t`-th 256 rows or columns. -/
theorem idx : ∀ t : Fin cfg0.N, win0_0.index t = ![0, 0] ∧ win0_1.index t = ![t.val, 0] ∧ win0_2.index t = ![t.val, 0]
    ∧ win0_3.index t = ![0, t.val] :=
  (by decide +kernel : ∀ t : Fin grid0.N, _)

/-- The activations' block is the whole array: the argument with batch and sequence flattened. -/
theorem block0_at (c : Dev nD) (t : Fin cfg0.N) (p : Fin 1536) (r : Fin 8192) :
    iblk m c 0 t (ix2 p r) = m ((c.tc : Thread nD τ).loc main_arg0)
      (ix3 (⟨p.val / 384, by omega⟩ : Fin 4) (⟨p.val % 384, Nat.mod_lt _ (by omega)⟩ : Fin 384) r) := by
  obtain ⟨e0, e1, e2, e3⟩ := idx t
  blk_simp [iblk]
  entry_read
  pointwise
  blk_point [e0]

/-- Block `t` of the codes: rows `256 t …`. -/
theorem block1_at (c : Dev nD) (t : Fin cfg0.N) (n : Fin 256) (k : Fin 4096) (h : t.val * 256 + n.val < 10240) :
    iblk m c 1 t (ix2 n k) = m ((c.tc : Thread nD τ).loc main_arg1) (ix2 (⟨t.val * 256 + n.val, h⟩ : Fin 10240) k) := by
  obtain ⟨e0, e1, e2, e3⟩ := idx t
  blk_point [iblk, V, e1]

/-- Block `t` of the scales: rows `256 t …`. -/
theorem block2_at (c : Dev nD) (t : Fin cfg0.N) (n : Fin 256) (k : Fin 256) (h : t.val * 256 + n.val < 10240) :
    iblk m c 2 t (ix2 n k) = m ((c.tc : Thread nD τ).loc main_arg2) (ix2 (⟨t.val * 256 + n.val, h⟩ : Fin 10240) k) := by
  obtain ⟨e0, e1, e2, e3⟩ := idx t
  blk_point [iblk, V, e2]

/-- Block `t` of the result: columns `256 t …`. -/
theorem emb_at (t : Fin cfg0.N) (p : Fin 1536) (n : Fin 256) (h : t.val * 256 + n.val < 10240) :
    ((View.whole main_v1).slice (win0_3.rect t)).emb (ix2 p n) = ix2 p (⟨t.val * 256 + n.val, h⟩ : Fin 10240) := by
  obtain ⟨e0, e1, e2, e3⟩ := idx t
  blk_ext [e3]

/-- The kernel's result array is `product` of its arguments. -/
theorem array_eq (c : Dev nD) : (dats m 0 c).arrAt 3 cfg0.N
    = Cert.Value.product (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 40 := lt_of_lt_of_eq t.isLt Gen.N_0
  blk_simp
  rw [after0_3, outs_eq]
  idx_vars y
  have hn : t.val * 256 + y1.val < 10240 := by omega
  rw [emb_at t y0 y1 hn]
  refine (dot_at _ _ y0 y1).trans (Finset.sum_congr rfl fun r _ => ?_)
  refine congrArg₂ (fun a b : EReal => a * b) (block0_at m c t y0 r) ((weight_eq _ _ r y1).trans ?_)
  rw [block1_at m c t y1 _ hn, block2_at m c t y1 _ hn]
  rfl

end Cert.KernelIdeal.Tile

end
-- ==== Proof.RefValue.lean ====
/- The reference's result at an index over the extended reals: two sums of 4096 products, one over the even columns with the low
   nibbles, one over the odd columns with the high ones. -/
module

public import proofs.«01_k».proof.Proof.Product
public import proofs.«01_k».proof.Proof.Gen.ReferenceIdeal.Read
public import Idealize.ShloMosaic.Lib.Pointwise

@[expose] public section

set_option maxRecDepth 16384

noncomputable section

namespace Cert.ReferenceIdeal.Result

open Idealize.ShloMosaic Idealize.ShloMosaic.TcCoe
open Cert.ReferenceIdeal Cert.ReferenceIdeal.Gen Cert.ReferenceIdeal.Read

section Scalars

variable {F : FTy → Type} [FloatOps F]

/-- The decoded low nibbles at an index. -/
theorem lo_at (C : Vec F S10240x4096 .i8) (i : S10240x4096.Idx) :
    val_main_v42 (F := F) C i = Cert.Value.sel (IntOp.andi ((C i).setWidth 32) 15#32) := by
  simp only [val_main_v0_apply, val_main_c_apply, val_main_v1_apply, val_main_v2_apply, val_main_c_6_apply, val_main_v18_apply,
    val_main_v19_apply, val_main_c_7_apply, val_main_v20_apply, val_main_v21_apply, val_main_c_8_apply, val_main_v22_apply,
    val_main_v23_apply, val_main_c_9_apply, val_main_v24_apply, val_main_v25_apply, val_main_c_10_apply, val_main_v26_apply,
    val_main_v27_apply, val_main_c_11_apply, val_main_v28_apply, val_main_v29_apply, val_main_c_12_apply, val_main_v30_apply,
    val_main_v31_apply, val_main_c_13_apply, val_main_v32_apply, val_main_v33_apply, val_main_cst_14_apply,
    val_main_cst_15_apply, val_main_call2_v0_apply, val_main_call2_v1_apply, val_main_v34_apply, val_main_cst_16_apply,
    val_main_cst_17_apply, val_main_call3_v0_apply, val_main_call3_v1_apply, val_main_v35_apply, val_main_v36_apply,
    val_main_cst_18_apply, val_main_cst_19_apply, val_main_call5_v0_apply, val_main_call5_v1_apply, val_main_v37_apply,
    val_main_cst_20_apply, val_main_cst_21_apply, val_main_call6_v0_apply, val_main_call6_v1_apply, val_main_v38_apply,
    val_main_v39_apply, val_main_v40_apply, val_main_v41_apply, val_main_v42_apply]
  rfl

/-- The decoded high nibbles at an index. -/
theorem hi_at (C : Vec F S10240x4096 .i8) (i : S10240x4096.Idx) :
    val_main_v72 (F := F) C i = Cert.Value.sel (IntOp.shrsi .host ((C i).setWidth 32) 4#32) := by
  simp only [val_main_v0_apply, val_main_c_0_apply, val_main_v3_apply, val_main_v4_apply, val_main_c_22_apply, val_main_v48_apply,
    val_main_v49_apply, val_main_c_23_apply, val_main_v50_apply, val_main_v51_apply, val_main_c_24_apply, val_main_v52_apply,
    val_main_v53_apply, val_main_c_25_apply, val_main_v54_apply, val_main_v55_apply, val_main_c_26_apply, val_main_v56_apply,
    val_main_v57_apply, val_main_c_27_apply, val_main_v58_apply, val_main_v59_apply, val_main_c_28_apply, val_main_v60_apply,
    val_main_v61_apply, val_main_c_29_apply, val_main_v62_apply, val_main_v63_apply, val_main_cst_30_apply,
    val_main_cst_31_apply, val_main_call10_v0_apply, val_main_call10_v1_apply, val_main_v64_apply, val_main_cst_32_apply,
    val_main_cst_33_apply, val_main_call11_v0_apply, val_main_call11_v1_apply, val_main_v65_apply, val_main_v66_apply,
    val_main_cst_34_apply, val_main_cst_35_apply, val_main_call13_v0_apply, val_main_call13_v1_apply, val_main_v67_apply,
    val_main_cst_36_apply, val_main_cst_37_apply, val_main_call14_v0_apply, val_main_call14_v1_apply, val_main_v68_apply,
    val_main_v69_apply, val_main_v70_apply, val_main_v71_apply, val_main_v72_apply]
  rfl

/-- The scales at an index, before they are rounded to bf16. -/
theorem scale_at (S : Vec F S10240x256 .i8) (i : S10240x256.Idx) :
    val_main_v16 (F := F) S i = Cert.Value.pow2 (S i) := by
  simp only [val_main_v5_apply, val_main_c_1_apply, val_main_v6_apply, val_main_v7_apply, val_main_cst_apply, val_main_v8_apply,
    val_main_v9_apply, val_main_v10_apply, val_main_c_2_apply, val_main_v11_apply, val_main_v12_apply, val_main_c_3_apply,
    val_main_v13_apply, val_main_v14_apply, val_main_cst_4_apply, val_main_call0_v0_apply, val_main_v15_apply,
    val_main_cst_5_apply, val_main_call1_v0_apply, val_main_v16_apply]
  rfl

/-- The even columns of the activations. -/
theorem even_at (x : Vec F S4x384x8192 .bf16) (p : Fin 4) (q : Fin 384) (k : Fin 4096) :
    val_main_v78 (F := F) x (ix3 p q k) = x (ix3 p q ⟨2 * k.val, by omega⟩) := by
  unfold val_main_v78
  pointwise

/-- The odd columns of the activations. -/
theorem odd_at (x : Vec F S4x384x8192 .bf16) (p : Fin 4) (q : Fin 384) (k : Fin 4096) :
    val_main_v80 (F := F) x (ix3 p q k) = x (ix3 p q ⟨2 * k.val + 1, by omega⟩) := by
  unfold val_main_v80
  pointwise
  simp only [Nat.add_comm 1]

/-- The low-nibble weights at an index: the decoded code times the scale of its block of 16 codes. -/
theorem wlo_read (C : Vec F S10240x4096 .i8) (S : Vec F S10240x256 .i8) (n : Fin 10240) (k : Fin 4096) :
    val_main_v47 (F := F) C S (ix2 n k)
      = FloatOps.mulf (Cert.Value.sel (IntOp.andi ((C (ix2 n k)).setWidth 32) 15#32))
          (FloatOps.truncf .bf16 bitsLt_bf16_f32 (Cert.Value.pow2 (S (ix2 n ⟨k.val / 16, by omega⟩)))) := by
  have ec : idx_main_v43 (idx_main_v47 (ix2 n k)) = ix2 n k := by
    funext a
    apply Fin.ext
    match a with
    | ⟨0, _⟩ =>
      show (((n.val * 4096 + k.val) / 4096 * 256 + (n.val * 4096 + k.val) / 16 % 256) * 16 + (n.val * 4096 + k.val) % 16) / 4096 = n.val
      omega
    | ⟨1, _⟩ =>
      show (((n.val * 4096 + k.val) / 4096 * 256 + (n.val * 4096 + k.val) / 16 % 256) * 16 + (n.val * 4096 + k.val) % 16) % 4096 = k.val
      omega
  have es : idx_main_v44 (idx_main_v45 (idx_main_v47 (ix2 n k))) = ix2 n (⟨k.val / 16, by omega⟩ : Fin 256) := by
    funext a
    apply Fin.ext
    match a with
    | ⟨0, _⟩ => show (n.val * 4096 + k.val) / 4096 = n.val; omega
    | ⟨1, _⟩ => show (n.val * 4096 + k.val) / 16 % 256 = k.val / 16; omega
  rw [val_main_v47_apply, val_main_v46_apply, val_main_v43_apply, val_main_v45_apply, val_main_v44_apply, val_main_v17_apply,
    ec, es, lo_at, scale_at]

/-- The high-nibble weights at an index: the decoded code times the scale of its block of 16 codes. -/
theorem whi_read (C : Vec F S10240x4096 .i8) (S : Vec F S10240x256 .i8) (n : Fin 10240) (k : Fin 4096) :
    val_main_v77 (F := F) C S (ix2 n k)
      = FloatOps.mulf (Cert.Value.sel (IntOp.shrsi .host ((C (ix2 n k)).setWidth 32) 4#32))
          (FloatOps.truncf .bf16 bitsLt_bf16_f32 (Cert.Value.pow2 (S (ix2 n ⟨k.val / 16, by omega⟩)))) := by
  have ec : idx_main_v73 (idx_main_v77 (ix2 n k)) = ix2 n k := by
    funext a
    apply Fin.ext
    match a with
    | ⟨0, _⟩ =>
      show (((n.val * 4096 + k.val) / 4096 * 256 + (n.val * 4096 + k.val) / 16 % 256) * 16 + (n.val * 4096 + k.val) % 16) / 4096 = n.val
      omega
    | ⟨1, _⟩ =>
      show (((n.val * 4096 + k.val) / 4096 * 256 + (n.val * 4096 + k.val) / 16 % 256) * 16 + (n.val * 4096 + k.val) % 16) % 4096 = k.val
      omega
  have es : idx_main_v74 (idx_main_v75 (idx_main_v77 (ix2 n k))) = ix2 n (⟨k.val / 16, by omega⟩ : Fin 256) := by
    funext a
    apply Fin.ext
    match a with
    | ⟨0, _⟩ => show (n.val * 4096 + k.val) / 4096 = n.val; omega
    | ⟨1, _⟩ => show (n.val * 4096 + k.val) / 16 % 256 = k.val / 16; omega
  rw [val_main_v77_apply, val_main_v76_apply, val_main_v73_apply, val_main_v75_apply, val_main_v74_apply, val_main_v17_apply,
    ec, es, hi_at, scale_at]

end Scalars

/-- The reference's low-nibble weights are the even rows of the dequantized weights. -/
theorem wlo_at (C : Vec Ideal S10240x4096 .i8) (S : Vec Ideal S10240x256 .i8) (n : Fin 10240) (k : Fin 4096) :
    (val_main_v47 (F := Ideal) C S (ix2 n k) : EReal) = Cert.Value.wt C S ⟨2 * k.val, by omega⟩ n := by
  have e1 : (2 * k.val) / 2 = k.val := by omega
  have e2 : (2 * k.val) % 2 = 0 := by omega
  have e3 : (2 * k.val) / 32 = k.val / 16 := by omega
  unfold Cert.Value.wt
  simp only [e1, e2, e3]
  rw [wlo_read, Cert.Value.lo_word]
  exact congrArg₂ (fun a b : EReal => a * b) (Cert.Value.sel_eq _ (Cert.Value.nibble_lt _ _)) (Cert.Value.pow2_eq _)

/-- The reference's high-nibble weights are the odd rows of the dequantized weights. -/
theorem whi_at (C : Vec Ideal S10240x4096 .i8) (S : Vec Ideal S10240x256 .i8) (n : Fin 10240) (k : Fin 4096) :
    (val_main_v77 (F := Ideal) C S (ix2 n k) : EReal) = Cert.Value.wt C S ⟨2 * k.val + 1, by omega⟩ n := by
  have e1 : (2 * k.val + 1) / 2 = k.val := by omega
  have e2 : (2 * k.val + 1) % 2 = 1 := by omega
  have e3 : (2 * k.val + 1) / 32 = k.val / 16 := by omega
  unfold Cert.Value.wt
  simp only [e1, e2, e3]
  rw [whi_read, Cert.Value.hi_word]
  exact congrArg₂ (fun a b : EReal => a * b) (Cert.Value.sel_eq _ (Cert.Value.nibble_lt _ _)) (Cert.Value.pow2_eq _)

/-- The reference's result at row `p`, column `n`. -/
theorem result_at (x : Vec Ideal S4x384x8192 .bf16) (C : Vec Ideal S10240x4096 .i8) (S : Vec Ideal S10240x256 .i8)
    (p : Fin 1536) (n : Fin 10240) :
    (val_main_v84 (F := Ideal) x C S (ix2 p n) : EReal)
      = (∑ k : Fin 4096, (show EReal from x (ix3 ⟨p.val / 384, by omega⟩ ⟨p.val % 384, by omega⟩ ⟨2 * k.val, by omega⟩))
          * Cert.Value.wt C S ⟨2 * k.val, by omega⟩ n)
        + ∑ k : Fin 4096, (show EReal from x (ix3 ⟨p.val / 384, by omega⟩ ⟨p.val % 384, by omega⟩ ⟨2 * k.val + 1, by omega⟩))
          * Cert.Value.wt C S ⟨2 * k.val + 1, by omega⟩ n := by
  have e : idx_main_v84 (ix2 p n) = ix3 ⟨p.val / 384, by omega⟩ ⟨p.val % 384, by omega⟩ n := by
    funext a
    apply Fin.ext
    match a with
    | ⟨0, _⟩ => show (p.val * 10240 + n.val) / 3932160 = p.val / 384; omega
    | ⟨1, _⟩ => show (p.val * 10240 + n.val) / 10240 % 384 = p.val % 384; omega
    | ⟨2, _⟩ => show (p.val * 10240 + n.val) % 10240 = n.val; omega
  rw [val_main_v84_apply, e, val_main_v83_apply, val_main_v82_apply]
  refine congrArg₂ (fun a b : EReal => a + b) ((val_main_v79_apply x C S _).trans ?_) ((val_main_v81_apply x C S _).trans ?_)
  · refine Finset.sum_congr rfl fun k _ => ?_
    have el (i : Fin 4) (j : Fin 384) : lidx_main_v79 (ix3 i j n) k = ix3 i j k :=
      funext fun a => match a with | ⟨0, _⟩ => rfl | ⟨1, _⟩ => rfl | ⟨2, _⟩ => rfl
    have er (i : Fin 4) (j : Fin 384) : ridx_main_v79 (ix3 i j n) k = ix2 n k :=
      funext fun a => match a with | ⟨0, _⟩ => rfl | ⟨1, _⟩ => rfl
    rw [el, er]
    exact congrArg₂ (fun a b : EReal => a * b) (even_at x _ _ k) (wlo_at C S n k)
  · refine Finset.sum_congr rfl fun k _ => ?_
    have el (i : Fin 4) (j : Fin 384) : lidx_main_v81 (ix3 i j n) k = ix3 i j k :=
      funext fun a => match a with | ⟨0, _⟩ => rfl | ⟨1, _⟩ => rfl | ⟨2, _⟩ => rfl
    have er (i : Fin 4) (j : Fin 384) : ridx_main_v81 (ix3 i j n) k = ix2 n k :=
      funext fun a => match a with | ⟨0, _⟩ => rfl | ⟨1, _⟩ => rfl
    rw [el, er]
    exact congrArg₂ (fun a b : EReal => a * b) (odd_at x _ _ k) (whi_at C S n k)

end Cert.ReferenceIdeal.Result

end
-- ==== Proof.Equation.lean ====
/- The reference's result is the product of the activations with the dequantized weights: the even and the odd columns together
   are all the columns. -/
module

public import proofs.«01_k».proof.Proof.RefValue

@[expose] public section

set_option maxRecDepth 16384

noncomputable section

namespace Cert.Value

open Idealize.ShloMosaic Idealize.ShloMosaic.TcCoe

/-- A sum over 8192 columns is the sum over the even ones plus the sum over the odd ones. -/
theorem sum_even_odd (f : Fin 8192 → EReal) :
    ∑ r : Fin 8192, f r = (∑ k : Fin 4096, f ⟨2 * k.val, by omega⟩) + ∑ k : Fin 4096, f ⟨2 * k.val + 1, by omega⟩ := by
  rw [← Finset.sum_add_distrib, ← (finProdFinEquiv (m := 4096) (n := 2)).sum_comp, Fintype.sum_prod_type]
  refine Finset.sum_congr rfl fun k _ => ?_
  rw [Fin.sum_univ_two]
  refine congrArg₂ (fun a b : EReal => a + b) (congrArg f (Fin.ext ?_)) (congrArg f (Fin.ext ?_))
  · show 0 + 2 * k.val = 2 * k.val; omega
  · show 1 + 2 * k.val = 2 * k.val + 1; omega

/-- The reference's result is `product` of its arguments. -/
theorem reference_eq (x : Vec Ideal ⟨3, ![4, 384, 8192]⟩ .bf16) (C : Vec Ideal ⟨2, ![10240, 4096]⟩ .i8)
    (S : Vec Ideal ⟨2, ![10240, 256]⟩ .i8) :
    Cert.ReferenceIdeal.Read.val_main_v84 (F := Ideal) x C S = product x C S := by
  funext i
  idx_vars i
  refine (Cert.ReferenceIdeal.Result.result_at x C S i0 i1).trans ?_
  exact (sum_even_odd fun r => (show EReal from x (ix3 (⟨i0.val / 384, by omega⟩ : Fin 4) (⟨i0.val % 384, by omega⟩ : Fin 384) r))
    * wt C S r i1).symm

end Cert.Value

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.KernelValue
public import proofs.«01_k».proof.Proof.Equation
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel runs, leaves its arguments unchanged and every counter at zero. -/
theorem quiescent_kernel : Cert.quiescent_Kernel := fun m g _ => Cert.Kernel.Gen.frame m g

/-- The ideal kernel does too. -/
theorem quiescent_kernel_ideal : Cert.quiescent_KernelIdeal := fun m g _ => Cert.KernelIdeal.Gen.frame m g

/-- The reference does too: it has no semaphore. -/
theorem quiescent_reference : Cert.quiescent_ReferenceIdeal := fun m g _ =>
  (θ_run _ _ _).mono (fun r h => ⟨fun c => (h c).2, sem_eq_zero_of_no_sems (by decide) r.2⟩) (Cert.ReferenceIdeal.Value.run m g)

/-- No operation of the kernel was rewritten. -/
theorem preserves_kernel : Cert.preserves_Kernel_KernelIdeal := trivial

/-- The kernel's result and the reference's are both `Cert.Value.product` of the arguments. -/
theorem algebraic : Cert.algebraic_KernelIdeal_ReferenceIdeal := fun m g m' g' _ hag =>
  ⟨fun c => Cert.Value.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run _ _ _).mono (fun _ h c => ⟨(h c).1.trans (Cert.KernelIdeal.Tile.array_eq m c), (h c).2⟩)
      (Cert.KernelIdeal.Value.run_blocks m g),
    (θ_run _ _ _).mono (fun _ h c => ⟨(h c).1.trans (by
        obtain ⟨h0, h1, h2⟩ := hag c
        rw [Cert.ReferenceIdeal.Read.val_main_v84_eq, h0, h1, h2]
        exact Cert.Value.reference_eq _ _ _), (h c).2⟩)
      (Cert.ReferenceIdeal.Value.run m' g')⟩

theorem claim : Cert.Claim :=
  ⟨Cert.Kernel.Gen.facts, Cert.KernelIdeal.Gen.facts, Cert.ReferenceIdeal.Gen.facts,
    quiescent_kernel, quiescent_kernel_ideal, quiescent_reference, preserves_kernel, algebraic⟩

end Cert.Proof

end
